-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v26) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4 : Shape := ⟨2, ![1024, 4]⟩
abbrev S4x128 : Shape := ⟨2, ![4, 128]⟩
abbrev S128 : Shape := ⟨1, ![128]⟩
abbrev S128x128 : Shape := ⟨2, ![128, 128]⟩
abbrev S2x100000x128 : Shape := ⟨3, ![2, 100000, 128]⟩
abbrev S2x100000 : Shape := ⟨2, ![2, 100000]⟩
abbrev S1x128 : Shape := ⟨2, ![1, 128]⟩
abbrev S1024x128 : Shape := ⟨2, ![1024, 128]⟩
abbrev S2x1024x100000 : Shape := ⟨3, ![2, 1024, 100000]⟩
abbrev S512x128 : Shape := ⟨2, ![512, 128]⟩
abbrev S1x2048x128 : Shape := ⟨3, ![1, 2048, 128]⟩
abbrev S1x512x2048 : Shape := ⟨3, ![1, 512, 2048]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S2x1024x50 : Shape := ⟨3, ![2, 1024, 50]⟩
abbrev S_ : Shape := ⟨0, ![]⟩
abbrev S2x1024 : Shape := ⟨2, ![2, 1024]⟩
abbrev S2x1024x1 : Shape := ⟨3, ![2, 1024, 1]⟩
abbrev S2x1024x50x1 : Shape := ⟨4, ![2, 1024, 50, 1]⟩
abbrev S1024x2 : Shape := ⟨2, ![1024, 2]⟩
abbrev S1024 : Shape := ⟨1, ![1024]⟩
abbrev S1024x2x50 : Shape := ⟨3, ![1024, 2, 50]⟩

abbrev nBuf : Space → Nat
  | .hbm => 46
  | .vmem => 12
  | .smem => 0
  | _ => 0

abbrev bufTy : (tb : Table) → Fin (tcTables nBuf tb) → BufTy
  | .hbm, ⟨0, _⟩ => ⟨S1024x4, .f32⟩
  | .hbm, ⟨1, _⟩ => ⟨S4x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x100000x128, .f32⟩
  | .hbm, ⟨6, _⟩ => ⟨S2x100000, .f32⟩
  | .hbm, ⟨7, _⟩ => ⟨S1x128, .f32⟩
  | .hbm, ⟨8, _⟩ => ⟨S1x128, .f32⟩
  | .hbm, ⟨9, _⟩ => ⟨S1024x128, .f32⟩
  | .hbm, ⟨10, _⟩ => ⟨S2x1024x100000, .f32⟩
  | .hbm, ⟨11, _⟩ => ⟨S2x1024x100000, .f32⟩
  | .hbm, ⟨12, _⟩ => ⟨S2x1024x50, .f32⟩
  | .hbm, ⟨13, _⟩ => ⟨S2x1024x50, .i32⟩
  | .hbm, ⟨14, _⟩ => ⟨S2x1024x50, .f32⟩
  | .hbm, ⟨15, _⟩ => ⟨S_, .f32⟩
  | .hbm, ⟨16, _⟩ => ⟨S2x1024x50, .f32⟩
  | .hbm, ⟨17, _⟩ => ⟨S2x1024x50, .f32⟩
  | .hbm, ⟨18, _⟩ => ⟨S_, .f32⟩
  | .hbm, ⟨19, _⟩ => ⟨S2x1024x50, .f32⟩
  | .hbm, ⟨20, _⟩ => ⟨S2x1024x50, .f32⟩
  | .hbm, ⟨21, _⟩ => ⟨S_, .f32⟩
  | .hbm, ⟨22, _⟩ => ⟨S2x1024, .f32⟩
  | .hbm, ⟨23, _⟩ => ⟨S2x1024x1, .f32⟩
  | .hbm, ⟨24, _⟩ => ⟨S2x1024x50, .f32⟩
  | .hbm, ⟨25, _⟩ => ⟨S2x1024x50, .f32⟩
  | .hbm, ⟨26, _⟩ => ⟨S_, .i32⟩
  | .hbm, ⟨27, _⟩ => ⟨S2x1024x50, .i32⟩
  | .hbm, ⟨28, _⟩ => ⟨S2x1024x50, .i1⟩
  | .hbm, ⟨29, _⟩ => ⟨S_, .i32⟩
  | .hbm, ⟨30, _⟩ => ⟨S2x1024x50, .i32⟩
  | .hbm, ⟨31, _⟩ => ⟨S2x1024x50, .i32⟩
  | .hbm, ⟨32, _⟩ => ⟨S2x1024x50, .i32⟩
  | .hbm, ⟨33, _⟩ => ⟨S2x1024x50x1, .i32⟩
  | .hbm, ⟨34, _⟩ => ⟨S2x1024x50, .f32⟩
  | .hbm, ⟨35, _⟩ => ⟨S2x1024x50, .f32⟩
  | .hbm, ⟨36, _⟩ => ⟨S_, .f32⟩
  | .hbm, ⟨37, _⟩ => ⟨S2x1024, .f32⟩
  | .hbm, ⟨38, _⟩ => ⟨S1024x2, .f32⟩
  | .hbm, ⟨39, _⟩ => ⟨S1024x2, .i32⟩
  | .hbm, ⟨40, _⟩ => ⟨S_, .f32⟩
  | .hbm, ⟨41, _⟩ => ⟨S_, .i32⟩
  | .hbm, ⟨42, _⟩ => ⟨S1024, .f32⟩
  | .hbm, ⟨43, _⟩ => ⟨S1024, .i32⟩
  | .hbm, ⟨44, _⟩ => ⟨S1024x2x50, .i32⟩
  | .hbm, ⟨45, _⟩ => ⟨S1024x2x50, .f32⟩
  | .local _ .vmem, ⟨0, _⟩ => ⟨S1024x4, .f32⟩
  | .local _ .vmem, ⟨1, _⟩ => ⟨S4x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S1024x128, .f32⟩
  | .local _ .vmem, ⟨6, _⟩ => ⟨S512x128, .f32⟩
  | .local _ .vmem, ⟨7, _⟩ => ⟨S512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x512x2048, .f32⟩
  | .local _ .vmem, ⟨11, _⟩ => ⟨S1x512x2048, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := .none

abbrev stage0_0 : Fin 1 → Memref sig .tc .vmem S1024x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨3, ![2, 2, 49], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]
-- ==== ReferenceIdeal.lean ====
abbrev S1024x4 : Shape := ⟨2, ![1024, 4]⟩
abbrev S4x128 : Shape := ⟨2, ![4, 128]⟩
abbrev S128 : Shape := ⟨1, ![128]⟩
abbrev S128x128 : Shape := ⟨2, ![128, 128]⟩
abbrev S2x100000x128 : Shape := ⟨3, ![2, 100000, 128]⟩
abbrev S2x100000 : Shape := ⟨2, ![2, 100000]⟩
abbrev S1024x128 : Shape := ⟨2, ![1024, 128]⟩
abbrev S1x128 : Shape := ⟨2, ![1, 128]⟩
abbrev S_ : Shape := ⟨0, ![]⟩
abbrev S1024 : Shape := ⟨1, ![1024]⟩
abbrev S1x1024x1 : Shape := ⟨3, ![1, 1024, 1]⟩
abbrev S2x1x100000 : Shape := ⟨3, ![2, 1, 100000]⟩
abbrev S2x100000x1024 : Shape := ⟨3, ![2, 100000, 1024]⟩
abbrev S2x1024x100000 : Shape := ⟨3, ![2, 1024, 100000]⟩
abbrev S2x1024x50 : Shape := ⟨3, ![2, 1024, 50]⟩
abbrev S2x1024 : Shape := ⟨2, ![2, 1024]⟩
abbrev S2x1024x1 : Shape := ⟨3, ![2, 1024, 1]⟩
abbrev S2x1024x50x1 : Shape := ⟨4, ![2, 1024, 50, 1]⟩
abbrev S1024x2 : Shape := ⟨2, ![1024, 2]⟩
abbrev S1024x2x50 : Shape := ⟨3, ![1024, 2, 50]⟩

abbrev nBuf : Space → Nat
  | .hbm => 70
  | .vmem => 0
  | .smem => 0
  | _ => 0

abbrev bufTy : (tb : Table) → Fin (tcTables nBuf tb) → BufTy
  | .hbm, ⟨0, _⟩ => ⟨S1024x4, .f32⟩
  | .hbm, ⟨1, _⟩ => ⟨S4x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x100000x128, .f32⟩
  | .hbm, ⟨6, _⟩ => ⟨S2x100000, .f32⟩
  | .hbm, ⟨7, _⟩ => ⟨S1024x128, .f32⟩
  | .hbm, ⟨8, _⟩ => ⟨S1x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024, .f32⟩
  | .hbm, ⟨21, _⟩ => ⟨S1x1024x1, .f32⟩
  | .hbm, ⟨22, _⟩ => ⟨S2x100000x128, .f32⟩
  | .hbm, ⟨23, _⟩ => ⟨S_, .f32⟩
  | .hbm, ⟨24, _⟩ => ⟨S2x100000, .f32⟩
  | .hbm, ⟨25, _⟩ => ⟨S2x1x100000, .f32⟩
  | .hbm, ⟨26, _⟩ => ⟨S2x100000x1024, .f32⟩
  | .hbm, ⟨27, _⟩ => ⟨S2x1024x100000, .f32⟩
  | .hbm, ⟨28, _⟩ => ⟨S_, .f32⟩
  | .hbm, ⟨29, _⟩ => ⟨S2x1024x100000, .f32⟩
  | .hbm, ⟨30, _⟩ => ⟨S2x1024x100000, .f32⟩
  | .hbm, ⟨31, _⟩ => ⟨S2x1024x100000, .f32⟩
  | .hbm, ⟨32, _⟩ => ⟨S2x1024x100000, .f32⟩
  | .hbm, ⟨33, _⟩ => ⟨S2x1024x100000, .f32⟩
  | .hbm, ⟨34, _⟩ => ⟨S2x1024x100000, .f32⟩
  | .hbm, ⟨35, _⟩ => ⟨S2x1024x100000, .f32⟩
  | .hbm, ⟨36, _⟩ => ⟨S2x1024x50, .f32⟩
  | .hbm, ⟨37, _⟩ => ⟨S2x1024x50, .i32⟩
  | .hbm, ⟨38, _⟩ => ⟨S2x1024x50, .f32⟩
  | .hbm, ⟨39, _⟩ => ⟨S_, .f32⟩
  | .hbm, ⟨40, _⟩ => ⟨S2x1024x50, .f32⟩
  | .hbm, ⟨41, _⟩ => ⟨S2x1024x50, .f32⟩
  | .hbm, ⟨42, _⟩ => ⟨S_, .f32⟩
  | .hbm, ⟨43, _⟩ => ⟨S2x1024x50, .f32⟩
  | .hbm, ⟨44, _⟩ => ⟨S2x1024x50, .f32⟩
  | .hbm, ⟨45, _⟩ => ⟨S_, .f32⟩
  | .hbm, ⟨46, _⟩ => ⟨S2x1024, .f32⟩
  | .hbm, ⟨47, _⟩ => ⟨S2x1024x1, .f32⟩
  | .hbm, ⟨48, _⟩ => ⟨S2x1024x50, .f32⟩
  | .hbm, ⟨49, _⟩ => ⟨S2x1024x50, .f32⟩
  | .hbm, ⟨50, _⟩ => ⟨S_, .i32⟩
  | .hbm, ⟨51, _⟩ => ⟨S2x1024x50, .i32⟩
  | .hbm, ⟨52, _⟩ => ⟨S2x1024x50, .i1⟩
  | .hbm, ⟨53, _⟩ => ⟨S_, .i32⟩
  | .hbm, ⟨54, _⟩ => ⟨S2x1024x50, .i32⟩
  | .hbm, ⟨55, _⟩ => ⟨S2x1024x50, .i32⟩
  | .hbm, ⟨56, _⟩ => ⟨S2x1024x50, .i32⟩
  | .hbm, ⟨57, _⟩ => ⟨S2x1024x50x1, .i32⟩
  | .hbm, ⟨58, _⟩ => ⟨S2x1024x50, .f32⟩
  | .hbm, ⟨59, _⟩ => ⟨S2x1024x50, .f32⟩
  | .hbm, ⟨60, _⟩ => ⟨S_, .f32⟩
  | .hbm, ⟨61, _⟩ => ⟨S2x1024, .f32⟩
  | .hbm, ⟨62, _⟩ => ⟨S1024x2, .f32⟩
  | .hbm, ⟨63, _⟩ => ⟨S1024x2, .i32⟩
  | .hbm, ⟨64, _⟩ => ⟨S_, .f32⟩
  | .hbm, ⟨65, _⟩ => ⟨S_, .i32⟩
  | .hbm, ⟨66, _⟩ => ⟨S1024, .f32⟩
  | .hbm, ⟨67, _⟩ => ⟨S1024, .i32⟩
  | .hbm, ⟨68, _⟩ => ⟨S1024x2x50, .i32⟩
  | .hbm, ⟨69, _⟩ => ⟨S1024x2x50, .f32⟩
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_values : Ref sig .tc := ⟨.hbm, 36, rfl⟩
abbrev main_indices : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Body.lean ====
/-
  The two kernel bodies as triples over whole staging buffers: the encoder leaves `k0_pay1` of its five operands in its
  result's buffer, the distance body `k1_pay1` of its two.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ

local notation "𝕄" => MT nD τ sig Unit (Elt F) ℕ UU ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem owns_out (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H

theorem owns_in (c : Dev nD) {sp : Space} {S : Shape} {e : EltTy} (M : Memref sig .tc sp S e) (h : M.IsWhole) (f : Buf (Elt F) (M.view.loc (c : Thread nD τ)))
    (X : S.Idx → Elt F e) (hf : M.view.read (Elt F) f = X) :
    pt c M f ⊢ (owns (c : Thread nD τ) M fullShare X : sProp 𝕄) := by
  unfold owns
  iintro H
  iexists f; isplitr; · ipureintro; exact hf
  rw [h.set_eq_univ]
  iexact H

theorem hz2 : (![0, 0] : Fin 2 → Nat) = fun _ => 0 := funext fun a => by fin_cases a <;> rfl
theorem hz3 : (![0, 0, 0] : Fin 3 → Nat) = fun _ => 0 := funext fun a => by fin_cases a <;> rfl

/-- One store of a whole buffer, read back. -/
theorem read_whole_store {κ : Kind} {sp : Space} {S : Shape} {e : EltTy} {v : View sig κ sp S e} {f : v.ty.Contents (Elt F)} {off : Fin S.rank → Nat}
    (hz : off = fun _ => 0) (inb : ∀ a, off a + S.size a ≤ S.size a) (w : S.Idx → Elt F e) :
    v.read (Elt F) (v.writes (Elt F) f [⟨Rect.unit off S.size inb, w⟩]) = w := by
  subst hz
  rw [View.read_writes_eq_canon _ _ _ (fun y => ⟨_, List.mem_singleton.mpr rfl, by
    show y ∈ (Rect.whole S).set; rw [Rect.set_whole]; exact Finset.mem_univ y⟩), View.canon_unit_zero rfl]

/-- The distance body: from the two operands' buffers and the result's, to the result's at `k1_pay1` of the operands. -/
theorem dist_run (c : Dev nD) (i : grid1.Coords) (M3 : Memref sig .tc .vmem S512x128 .f32) (h3 : M3.IsWhole)
    (M4 : Memref sig .tc .vmem S1x2048x128 .f32) (h4 : M4.IsWhole) (M5 : Memref sig .tc .vmem S1x512x2048 .f32) (h5 : M5.IsWhole)
    (X : Vec F S512x128 .f32) (Y : Vec F S1x2048x128 .f32) (f5 : Buf (Elt F) (M5.view.loc (c : Thread nD τ))) (E : Set ℕ) (Q : PUnit → sProp 𝕄) :
    iprop(pt c M3 (h3.unread X) ∗ pt c M4 (h4.unread Y) ∗ pt c M5 f5
        ∗ (iprop(pt c M3 (h3.unread X) ∗ pt c M4 (h4.unread Y) ∗ ∃ g, ⌜M5.view.read (Elt F) g = k1_pay1 X Y⌝ ∗ pt c M5 g) -∗ Q ⟨⟩))
      ⊢ wp frame (wpE (defs₀ (F := F)) Variants.none c none) E (cc1__dist_body i M3 h3 M4 h4 M5 h5) Q := by
  rw [cc1__dist_body_eq_skeleton]
  iintro ⟨H3, H4, H5, Hk⟩
  sl_exec!
  sl_step
  iapply Hk
  isplitl [H3]; · iexact H3
  isplitl [H4]; · iexact H4
  iexists _; isplitr; swap; · iexact H5
  ipureintro
  sl_unfold_words
  rw [read_whole_store hz3]
  simp only [View.readAt_eq_ld, h3.read_unread, h4.read_unread, View.ld_unit_zero (S := S512x128) hz2, View.ld_unit_zero (S := S1x2048x128) hz3]

/-- The encoder's body: from its five operands' buffers and the result's, to the result's at `k0_pay1` of the operands. -/
theorem enc_run (c : Dev nD) (M0 : Memref sig .tc .vmem S1024x4 .f32) (h0 : M0.IsWhole) (M1 : Memref sig .tc .vmem S4x128 .f32) (h1 : M1.IsWhole)
    (M2 : Memref sig .tc .vmem S1x128 .f32) (h2 : M2.IsWhole) (M3 : Memref sig .tc .vmem S128x128 .f32) (h3 : M3.IsWhole)
    (M4 : Memref sig .tc .vmem S1x128 .f32) (h4 : M4.IsWhole) (M5 : Memref sig .tc .vmem S1024x128 .f32) (h5 : M5.IsWhole)
    (X0 : Vec F S1024x4 .f32) (X1 : Vec F S4x128 .f32) (X2 : Vec F S1x128 .f32) (X3 : Vec F S128x128 .f32) (X4 : Vec F S1x128 .f32)
    (f5 : Buf (Elt F) (M5.view.loc (c : Thread nD τ))) (E : Set ℕ) (Q : PUnit → sProp 𝕄) :
    iprop(pt c M0 (h0.unread X0) ∗ pt c M1 (h1.unread X1) ∗ pt c M2 (h2.unread X2) ∗ pt c M3 (h3.unread X3) ∗ pt c M4 (h4.unread X4) ∗ pt c M5 f5
        ∗ (iprop(pt c M0 (h0.unread X0) ∗ pt c M1 (h1.unread X1) ∗ pt c M2 (h2.unread X2) ∗ pt c M3 (h3.unread X3) ∗ pt c M4 (h4.unread X4)
            ∗ ∃ g, ⌜M5.view.read (Elt F) g = k0_pay1 X0 X1 X2 X3 X4⌝ ∗ pt c M5 g) -∗ Q ⟨⟩))
      ⊢ wp frame (wpE (defs₀ (F := F)) Variants.none c none) E (cc0__enc_body M0 h0 M1 h1 M2 h2 M3 h3 M4 h4 M5 h5) Q := by
  rw [cc0__enc_body_eq_skeleton]
  iintro ⟨H0, H1, H2, H3, H4, H5, Hk⟩
  sl_exec!
  sl_step
  iapply Hk
  isplitl [H0]; · iexact H0
  isplitl [H1]; · iexact H1
  isplitl [H2]; · iexact H2
  isplitl [H3]; · iexact H3
  isplitl [H4]; · iexact H4
  iexists _; isplitr; swap; · iexact H5
  ipureintro
  sl_unfold_words
  rw [read_whole_store hz2]
  simp only [View.readAt_eq_ld, h0.read_unread, h1.read_unread, h2.read_unread, h3.read_unread, h4.read_unread, View.ld_unit_zero (S := S1024x4) hz2,
    View.ld_unit_zero (S := S4x128) hz2, View.ld_unit_zero (S := S1x128) hz2, View.ld_unit_zero (S := S128x128) hz2]

end Cert.Proof.KI

end
-- ==== Proof.Rel.lean ====
/-
  A kernel region stated by RELATIONAL proof data, over the thread state "every unscoped buffer held at a valuation":
  entered at `V c`, left at `V' c A` for SOME contents `A` the windows' arrays may hold after every write-back; and a
  host segment whose entry valuation is one of a family.
-/
module

public import Idealize.ShloMosaic.Lib.Pipeline.RegionsLoop
public import Idealize.ShloMosaic.Lib.Pipeline.RegionArrays
public import Idealize.ShloMosaic.Lib.Pipeline.FrameTail

@[expose] public section

noncomputable section

namespace Cert.Proof.Rel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} [∀ e, Nonempty (Val e)]
variable {Ix : Type} [DecidableEq Ix] {U : Type} [URA U] {Lvl : Type} [Preorder Lvl]

local notation "𝕄" => MT nD τ sig Ix Val ℕ U Lvl

variable {Λ₀ : Labels} {P : Type} [Fintype P]
variable (pcs : P → PCfg sig Λ₀ Val) (a : (p : P) → (pcs p).Adm)
  (rdats : (p : P) → (c : Dev nD) → RDat τ Val Ix ℕ U Lvl (pin pcs a p) c) (ι : Ix)
  (defs₀ : Defs nD τ sig Val Λ₀) (𝒱₀ : Variants)
  (L : GSem nD τ sig → Finset Ix) (lv : GSem nD τ sig → Ix → Lvl)

omit [Fintype P] [Preorder Lvl] in
/-- The arrays at some contents each: one family of contents, with the facts of it, and the arrays at it. -/
theorem arraysAt_family (p : P) (c : Dev nD) (n : Nat) :
    ((rdats p c).arraysAt n : sProp 𝕄) ⊢ iprop(∃ A, ⌜∀ w, (rdats p c).ArrAt w n (A w)⌝ ∗ (rdats p c).arrays A) := by
  classical
  unfold RDat.arraysAt
  iintro Ha
  ihave Ha' := (BI.bigSep_exists_pi Finset.univ (fun w F => iprop(⌜(rdats p c).ArrAt w n F⌝
      ∗ ((pin pcs a p).win w).arr.view.loc (c.tc : Thread nD τ) ↦[((pin pcs a p).win w).arr.view.set]{(rdats p c).share w} F))) $$ Ha
  icases Ha' with ⟨%A, Ha⟩
  ihave Ha2 := (BI.bigSep_pure_sep Finset.univ (fun w => (rdats p c).ArrAt w n (A w))
      (fun w => ((pin pcs a p).win w).arr.view.loc (c.tc : Thread nD τ) ↦[((pin pcs a p).win w).arr.view.set]{(rdats p c).share w} A w)) $$ Ha
  icases Ha2 with ⟨%hA', Ha⟩
  iexists A; isplitr; · ipureintro; exact fun w => hA' w (Finset.mem_univ w)
  unfold RDat.arrays
  iexact Ha

/-- The contents the windows' arrays may hold after every write-back. -/
abbrev Fin' (p : P) (c : Dev nD) (A : (w : Fin (pin pcs a p).W) → Buf Val (((pin pcs a p).win w).arr.view.loc (c.tc : Thread nD τ))) : Prop :=
  ∀ w, (rdats p c).ArrAt w (pin pcs a p).N (A w)

set_option backward.isDefEq.respectTransparency.types false in
omit [Preorder Lvl] in
/-- The windows' arrays at `A` and the other unscoped buffers at `V` are every unscoped buffer at a valuation reading
    `A` at the arrays and `V` elsewhere. -/
theorem held_of_arrays (p : P) (kit : PLaunchFacts (nD := nD) (τ := τ) pcs p)
    (hshare : ∀ c w, (rdats p c).share w = fullShare) (c : Dev nD)
    (A : (w : Fin (pin pcs a p).W) → Buf Val (((pin pcs a p).win w).arr.view.loc (c.tc : Thread nD τ)))
    (V V' : Valuation τ sig Val)
    (hF : ∀ w, A w = V' (Proc.devRef .tc (arrRef (pin pcs a p).spec w)))
    (hrest : ∀ b : Ref sig .tc, b ∉ Finset.univ.image (arrRef (pin pcs a p).spec) → V' (Proc.devRef .tc b) = V (Proc.devRef .tc b)) :
    (iprop((rdats p c).arrays A ∗ unscopedRest (Ix := Ix) (Name := ℕ) (U := U) (Lvl := Lvl) (pin pcs a p).spec c (fun b => V (Proc.devRef .tc b))) : sProp 𝕄)
      ⊢ StableHlo.held (c.tc : Thread nD τ) (ucRefs τ sig) V' := by
  rw [← unscopedBufs_held c V',
    unscopedBufs_split (pin pcs a) p kit.win.arr_unscoped kit.win.arr_inj c (fun b => V' (Proc.devRef .tc b)),
    RDat.arrays_eq pcs a rdats p c kit.arr_whole (hshare c)]
  refine sep_mono (Entails.of_eq (bigSep_congr fun w _ => by rw [← hF w])) (Entails.of_eq ?_)
  unfold unscopedRest
  exact bigSep_congr fun b hb => by dsimp only; rw [hrest b (Finset.mem_sdiff.mp hb).2]

set_option backward.isDefEq.respectTransparency.types false in
/-- THE REGION: entered from every unscoped buffer at `V c`, the core owing nothing; left with them at `V' c A` for some
    final contents `A` of the arrays. -/
def relSeg (p : P) (kit : PLaunchFacts (nD := nD) (τ := τ) pcs p) (hK : (pcs p).pre.K = 0)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hΦ : ∀ c t, (rdats p c).Φ t = scopedRest (pin pcs a p).spec c)
    (V : Dev nD → Valuation τ sig Val)
    (V' : (c : Dev nD) → ((w : Fin (pin pcs a p).W) → Buf Val (((pin pcs a p).win w).arr.view.loc (c.tc : Thread nD τ))) → Valuation τ sig Val)
    (hA : ∀ c w, (rdats p c).A w = V c (Proc.devRef .tc (arrRef (pin pcs a p).spec w)))
    (hF : ∀ c A, Fin' pcs a rdats p c A → ∀ w, A w = V' c A (Proc.devRef .tc (arrRef (pin pcs a p).spec w)))
    (hrest : ∀ c A (b : Ref sig .tc), b ∉ Finset.univ.image (arrRef (pin pcs a p).spec) → V' c A (Proc.devRef .tc b) = V c (Proc.devRef .tc b)) :
    RDat.RegionSeg pcs a rdats ι defs₀ 𝒱₀ L lv p where
  win := kit.win.to₀
  block_pos := kit.block_pos
  stage_whole := kit.stage_whole
  K := PEmpty
  osem k := k.elim
  ho := OwnSemFacts.none _
  hbody := hbody
  hwaits := RDat.hwaits_of_owed_zero pcs a rdats ι L lv p howed
  pre c := iprop(StableHlo.held (c.tc : Thread nD τ) (ucRefs τ sig) (V c) ∗ ∃ W, owes (c : Thread nD τ) (0 : CellTallies nD τ sig Ix) W)
  post c := iprop(∃ A, ⌜Fin' pcs a rdats p c A⌝ ∗ StableHlo.held (c.tc : Thread nD τ) (ucRefs τ sig) (V' c A)
    ∗ ∃ W, owes (c : Thread nD τ) (0 : CellTallies nD τ sig Ix) W)
  X _ := BI.emp
  Y _ := BI.emp
  Z c := unscopedRest (Ix := Ix) (Name := ℕ) (U := U) (Lvl := Lvl) (pin pcs a p).spec c (fun b => V c (Proc.devRef .tc b))
  hentry c := by
    rw [ownSems0_none, prefHeld_of_none _ hK, ← unscopedBufs_held c (V c),
      unscopedBufs_split (pin pcs a) p kit.win.arr_unscoped kit.win.arr_inj c (fun b => V c (Proc.devRef .tc b)),
      RDat.arrays_eq pcs a rdats p c kit.arr_whole (hshare c)]
    iintro ⟨⟨⟨Ha, Hrest⟩, HO⟩, -, -⟩
    imodintro
    isplitl [Ha]
    · iapply (Entails.of_eq (bigSep_congr fun w _ => by rw [hA c w]) :
        (bigSep Finset.univ fun w => (((c.tc : Thread nD τ).loc (arrRef (pin pcs a p).spec w)) ↦{fullShare} V c (Proc.devRef .tc (arrRef (pin pcs a p).spec w)) : sProp 𝕄)) ⊢ _)
      iexact Ha
    isplitr; · iempintro
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    iexact Hrest
  hin c := by
    iintro ⟨-, -, Hr⟩
    rw [hΦ c 0]; iexact Hr
  hout c := by
    rw [ownSems0_none, hΦ c _]
    iintro Hr
    isplitr; · iempintro
    isplitr; · iempintro
    iexact Hr
  hexit c := by
    iintro ⟨Ha, HO, -, Hrest⟩
    ihave Ha' := (arraysAt_family pcs a rdats p c (pin pcs a p).N) $$ Ha
    icases Ha' with ⟨%A, %hAt, Ha⟩
    imodintro
    iexists A
    isplitr; · ipureintro; exact hAt
    isplitl [Ha Hrest]
    · iapply (held_of_arrays pcs a rdats p kit hshare c A (V c) (V' c A) (hF c A hAt) (hrest c A))
      isplitl [Ha]; · iexact Ha
      iexact Hrest
    · unfold RDat.owesAt owesWithin
      rw [howed c (Fin.last _)]
      icases HO with ⟨%W, -, HO⟩; iexists W; iexact HO

/-- A line of host operations entered from every unscoped buffer at SOME valuation in `sel c` and left at the
    valuation the operations take one such to. -/
def hostEx (ops : List (HloOp τ sig Val))
    (hS : ∀ op ∈ ops, op.bufs ⊆ ucRefs τ sig) (hf : ∀ op ∈ ops, op.fresh = ∅)
    (sel : Dev nD → Valuation τ sig Val → Prop) (R : Dev nD → sProp 𝕄) :
    HostSeg (Name := ℕ) (U := U) pcs defs₀ 𝒱₀ L lv where
  prog := StableHlo.seq ops
  pre c := iprop(∃ V, ⌜sel c V⌝ ∗ StableHlo.held (c.tc : Thread nD τ) (ucRefs τ sig) V ∗ R c)
  post c := iprop(∃ V, ⌜∃ V₀, sel c V₀ ∧ V = StableHlo.after ops V₀⌝ ∗ StableHlo.held (c.tc : Thread nD τ) (ucRefs τ sig) V ∗ R c)
  run c {β} k K := by
    iintro ⟨Hk, Hbd, ⟨%V, %hV, Hh, HR⟩, Hl⟩
    have h := (HostSeg.ofOps (Ix := Ix) (Name := ℕ) (U := U) (Lvl := Lvl) pcs defs₀ 𝒱₀ L lv (ucRefs τ sig) ops hS hf (fun _ => V) R).run c k K
    dsimp only [HostSeg.ofOps] at h
    iapply h
    isplitl [Hk]
    · iintro ⟨Hbd, Hh, HR⟩
      iapply Hk
      isplitl [Hbd]; · iexact Hbd
      iexists (StableHlo.after ops V)
      isplitr; · ipureintro; exact ⟨V, hV, rfl⟩
      isplitl [Hh]; · iexact Hh
      iexact HR
    isplitl [Hbd]; · iexact Hbd
    isplitl [Hh HR]
    · isplitl [Hh]; · iexact Hh
      iexact HR
    iexact Hl

end Cert.Proof.Rel

end
-- ==== Proof.Run.lean ====
/-
  The run of the whole program: two kernel regions stated by relational proof data (the inputs' buffers as found, the
  output's at the body's value of the fetched blocks), chained with the host stretches. The launch theorem `run_all`
  says that every final memory is the host tail's valuation over some contents the distance array may hold.
-/
module

public import proofs.«01_k».proof.Proof.Body
public import proofs.«01_k».proof.Proof.Rel
public import proofs.«01_k».proof.Proof.Gen.KernelIdeal.Regions
public import Idealize.ShloMosaic.Lib.Pipeline.ArrRel
public import Idealize.ShloMosaic.Lib.Pipeline.ValueKit.Geometry

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕄" => MT nD τ sig Unit (Elt F) ℕ UU ℕ

abbrev 𝒱₀ : Variants := Variants.none
abbrev L₀ : GSem nD τ sig → Finset Unit := fun _ => ∅
abbrev lv₀ : GSem nD τ sig → Unit → ℕ := fun _ _ => 0

variable (m : (ℓ : Loc nD τ sig) → Buf (Elt F) ℓ)

/-! ### The encoder's region -/

/-- Window `w`'s block of the encoder's operands as its fetch reads it. -/
abbrev eblk (c : Dev nD) (w : Fin cfg0.W) : ((cfg0.win w).xblock (cfg0.grid.coords t0_0)).Idx → Elt F (cfg0.win w).elt :=
  ((cfg0.win w).blk t0_0).view.read (Elt F) (V1 m c (Pipeline.arrRef spec0 w))

/-- What the encoder leaves. -/
abbrev encOut (c : Dev nD) : Vec F S1024x128 .f32 := k0_pay1 (eblk m c 0) (eblk m c 1) (eblk m c 2) (eblk m c 3) (eblk m c 4)

/-- The scoped buffers that a region does not stage: its invariant between points. -/
abbrev Φ0 (c : Dev nD) : sProp 𝕄 := Pipeline.scopedRest (Ix := Unit) (Name := ℕ) (U := UU) (Lvl := ℕ) (Val := Elt F) spec0 c
abbrev Φ1 (c : Dev nD) : sProp 𝕄 := Pipeline.scopedRest (Ix := Unit) (Name := ℕ) (U := UU) (Lvl := ℕ) (Val := Elt F) spec1 c

def rdat0 (c : Dev nD) : RDat τ (Elt F) Unit ℕ UU ℕ cfg0 c where
  A w := V1 m c (Pipeline.arrRef spec0 w)
  after w _ := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = encOut m c
  Φ _ := Φ0 c
  q _ := fullShare
  owed _ := 0

/-- The valuation after the encoder's region. -/
abbrev W2 (c : Dev nD) : Valuation τ sig (Elt F) := Function.update (V1 m c) main_v2 (encOut m c)

/-! ### The distance region -/

/-- Window `w`'s block of the distance kernel's operands at point `t` as its fetch reads it. -/
abbrev dblk (c : Dev nD) (w : Fin cfg1.W) (t : Fin cfg1.N) : ((cfg1.win w).xblock (cfg1.grid.coords t)).Idx → Elt F (cfg1.win w).elt :=
  ((cfg1.win w).blk t).view.read (Elt F) (W2 m c (Pipeline.arrRef spec1 w))

/-- What the distance body leaves at point `t`, the part of the keys' staging buffer past the array's end holding `d`. -/
abbrev distOut (c : Dev nD) (t : Fin cfg1.N) (d : Vec F S1x2048x128 .f32) : Vec F S1x512x2048 .f32 :=
  k1_pay1 (dblk m c 0 t) ((cfg1.win 1).fill (cfg1.grid.coords t) d (dblk m c 1 t))

def rdat1 (c : Dev nD) : RDat τ (Elt F) Unit ℕ UU ℕ cfg1 c where
  A w := W2 m c (Pipeline.arrRef spec1 w)
  after w t := match w with
    | ⟨0, _⟩ => fun Y X => X = Y
    | ⟨1, _⟩ => fun Y X => X = Y
    | ⟨2, _⟩ => fun _ X => ∃ d, X = distOut m c t d
  Φ _ := Φ1 c
  q _ := fullShare
  owed _ := 0

/-- The two regions' proof data. -/
def rdats : (p : Fin 2) → (c : Dev nD) → RDat τ (Elt F) Unit ℕ UU ℕ (Pipeline.pin (pcfgs (F := F)) adm p) c
  | ⟨0, _⟩ => fun c => rdat0 m c
  | ⟨1, _⟩ => fun c => rdat1 m c

theorem hs0_0 (t : Fin cfg0.N) : (st0_0 t).IsWhole := launch0.stage_whole 0 _
theorem hs0_1 (t : Fin cfg0.N) : (st0_1 t).IsWhole := launch0.stage_whole 1 _
theorem hs0_2 (t : Fin cfg0.N) : (st0_2 t).IsWhole := launch0.stage_whole 2 _
theorem hs0_3 (t : Fin cfg0.N) : (st0_3 t).IsWhole := launch0.stage_whole 3 _
theorem hs0_4 (t : Fin cfg0.N) : (st0_4 t).IsWhole := launch0.stage_whole 4 _
theorem hs0_5 (t : Fin cfg0.N) : (st0_5 t).IsWhole := launch0.stage_whole 5 _
theorem hs1_0 (t : Fin cfg1.N) : (st1_0 t).IsWhole := hstage1_0 ((cfg1.slots t 0).cast nbuf1_0)
theorem hs1_1 (t : Fin cfg1.N) : (st1_1 t).IsWhole := hstage1_1 ((cfg1.slots t 1).cast nbuf1_1)
theorem hs1_2 (t : Fin cfg1.N) : (st1_2 t).IsWhole := hstage1_2 ((cfg1.slots t 2).cast nbuf1_2)

theorem finds0 (c : Dev nD) (w : Fin cfg0.W) (hw : (cfg0.win w).isOut = false) (hk : ∀ t Y X, (rdat0 m c).after w t Y X → X = Y)
    (t : Fin cfg0.N) (Y) (h : (rdat0 m c).Finds w t Y) : ∃ d, Y = (rdat0 m c).fetched w t d :=
  (rdat0 m c).finds_in_eq_fetched w hw (fun t t' _ => by rw [fin_N0 t, fin_N0 t']) hk t Y h

theorem body0 (c : Dev nD) : (rdat0 m c).BodyObligation (defs₀ (F := F)) 𝒱₀ () Set.univ := fun t Y hY => by
  obtain rfl := fin_N0 t
  obtain ⟨d0, e0⟩ := finds0 m c 0 rfl (fun _ _ _ h => h) t0_0 _ (hY 0)
  obtain ⟨d1, e1⟩ := finds0 m c 1 rfl (fun _ _ _ h => h) t0_0 _ (hY 1)
  obtain ⟨d2, e2⟩ := finds0 m c 2 rfl (fun _ _ _ h => h) t0_0 _ (hY 2)
  obtain ⟨d3, e3⟩ := finds0 m c 3 rfl (fun _ _ _ h => h) t0_0 _ (hY 3)
  obtain ⟨d4, e4⟩ := finds0 m c 4 rfl (fun _ _ _ h => h) t0_0 _ (hY 4)
  rw [bigSep_W0, bigSep_W0]
  rw [show (rdat0 m c).Φ t0_0.castSucc = (rdat0 m c).Φ t0_0.succ from rfl,
    show (rdat0 m c).owesAt () t0_0.castSucc = (rdat0 m c).owesAt () t0_0.succ from rfl]
  iintro ⟨HΦ, HO, H0, H1, H2, H3, H4, H5⟩
  ihave H0 := (owns_out c (st0_0 t0_0) (hs0_0 t0_0) (Y 0)) $$ H0
  ihave H1 := (owns_out c (st0_1 t0_0) (hs0_1 t0_0) (Y 1)) $$ H1
  ihave H2 := (owns_out c (st0_2 t0_0) (hs0_2 t0_0) (Y 2)) $$ H2
  ihave H3 := (owns_out c (st0_3 t0_0) (hs0_3 t0_0) (Y 3)) $$ H3
  ihave H4 := (owns_out c (st0_4 t0_0) (hs0_4 t0_0) (Y 4)) $$ H4
  ihave H5 := (owns_out c (st0_5 t0_0) (hs0_5 t0_0) (Y 5)) $$ H5
  iapply (enc_run c (st0_0 t0_0) (hs0_0 t0_0) (st0_1 t0_0) (hs0_1 t0_0) (st0_2 t0_0) (hs0_2 t0_0) (st0_3 t0_0) (hs0_3 t0_0)
    (st0_4 t0_0) (hs0_4 t0_0) (st0_5 t0_0) (hs0_5 t0_0) (Y 0) (Y 1) (Y 2) (Y 3) (Y 4) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, %g, %hg, H5⟩
  isplitl [HΦ]; · iexact HΦ
  isplitl [HO]; · iexact HO
  isplitl [H0]; · iexists (Y 0); isplitr; · ipureintro; exact rfl
                  iapply (owns_in c (st0_0 t0_0) (hs0_0 t0_0) _ (Y 0) (Memref.IsWhole.read_unread _ _)); iexact H0
  isplitl [H1]; · iexists (Y 1); isplitr; · ipureintro; exact rfl
                  iapply (owns_in c (st0_1 t0_0) (hs0_1 t0_0) _ (Y 1) (Memref.IsWhole.read_unread _ _)); iexact H1
  isplitl [H2]; · iexists (Y 2); isplitr; · ipureintro; exact rfl
                  iapply (owns_in c (st0_2 t0_0) (hs0_2 t0_0) _ (Y 2) (Memref.IsWhole.read_unread _ _)); iexact H2
  isplitl [H3]; · iexists (Y 3); isplitr; · ipureintro; exact rfl
                  iapply (owns_in c (st0_3 t0_0) (hs0_3 t0_0) _ (Y 3) (Memref.IsWhole.read_unread _ _)); iexact H3
  isplitl [H4]; · iexists (Y 4); isplitr; · ipureintro; exact rfl
                  iapply (owns_in c (st0_4 t0_0) (hs0_4 t0_0) _ (Y 4) (Memref.IsWhole.read_unread _ _)); iexact H4
  iexists (encOut m c); isplitr; · ipureintro; exact rfl
  iapply (owns_in c (st0_5 t0_0) (hs0_5 t0_0) g (encOut m c) (hg.trans (by rw [e0, e1, e2, e3, e4]; rfl))); iexact H5

theorem finds1 (c : Dev nD) (w : Fin cfg1.W) (hw : (cfg1.win w).isOut = false)
    (hclip : ∀ t t' : Fin cfg1.N, (cfg1.win w).index t = (cfg1.win w).index t' → (cfg1.win w).clip (cfg1.grid.coords t) = (cfg1.win w).clip (cfg1.grid.coords t'))
    (hk : ∀ t Y X, (rdat1 m c).after w t Y X → X = Y)
    (t : Fin cfg1.N) (Y) (h : (rdat1 m c).Finds w t Y) : ∃ d, Y = (rdat1 m c).fetched w t d :=
  (rdat1 m c).finds_in_eq_fetched w hw hclip hk t Y h

theorem body1 (c : Dev nD) : (rdat1 m c).BodyObligation (defs₀ (F := F)) 𝒱₀ () Set.univ := fun t Y hY => by
  obtain ⟨d0, e0⟩ := finds1 m c 0 rfl (fun _ _ _ => rfl) (fun _ _ _ h => h) t _ (hY 0)
  obtain ⟨d1, e1⟩ := ((rdat1 m c).finds_of_fetch (fetch1_1 t) (Y 1)).mp (hY 1)
  rw [bigSep_W1, bigSep_W1]
  rw [show (rdat1 m c).Φ t.castSucc = (rdat1 m c).Φ t.succ from rfl,
    show (rdat1 m c).owesAt () t.castSucc = (rdat1 m c).owesAt () t.succ from rfl]
  iintro ⟨HΦ, HO, H0, H1, H2⟩
  ihave H0 := (owns_out c (st1_0 t) (hs1_0 t) (Y 0)) $$ H0
  ihave H1 := (owns_out c (st1_1 t) (hs1_1 t) (Y 1)) $$ H1
  ihave H2 := (owns_out c (st1_2 t) (hs1_2 t) (Y 2)) $$ H2
  iapply (dist_run c (grid1.coords t) (st1_0 t) (hs1_0 t) (st1_1 t) (hs1_1 t) (st1_2 t) (hs1_2 t) (Y 0) (Y 1) _ Set.univ _)
  isplitl [H0]; · iexact H0
  isplitl [H1]; · iexact H1
  isplitl [H2]; · iexact H2
  iintro ⟨H0, H1, %g, %hg, H2⟩
  isplitl [HΦ]; · iexact HΦ
  isplitl [HO]; · iexact HO
  isplitl [H0]; · iexists (Y 0); isplitr; · ipureintro; exact rfl
                  iapply (owns_in c (st1_0 t) (hs1_0 t) _ (Y 0) (Memref.IsWhole.read_unread _ _)); iexact H0
  isplitl [H1]; · iexists (Y 1); isplitr; · ipureintro; exact rfl
                  iapply (owns_in c (st1_1 t) (hs1_1 t) _ (Y 1) (Memref.IsWhole.read_unread _ _)); iexact H1
  iexists (distOut m c t d1); isplitr; · ipureintro; exact ⟨d1, rfl⟩
  iapply (owns_in c (st1_2 t) (hs1_2 t) g (distOut m c t d1) (hg.trans (by rw [e0, e1]; rfl))); iexact H2

/-! ### The launch -/

/-- The unknowns of the valuations: the encoder's result, and `d` in the distance array. -/
def outsOf (c : Dev nD) (d : Buf (Elt F) ((c : Thread nD τ).loc main_v3)) : Outs (F := F) :=
  fun _ r c' => (Function.update (Function.update (V0 m c') main_v2 (encOut m c')) main_v3 (Function.update (fun e : Dev nD => V0 m e main_v3) c d c')) (Proc.devRef .tc r)

theorem V2_outsOf (c : Dev nD) (d) : V2 m (outsOf m c d) c = W2 m c := by
  unfold V2 W2 outsOf
  rw [Function.update_of_ne (StableHlo.devRef_ne_of_ne (by decide)), Function.update_self]

theorem V3_outsOf (c : Dev nD) (d) : V3 m (outsOf m c d) c = Function.update (W2 m c) main_v3 d := by
  unfold V3
  rw [V2_outsOf]
  unfold outsOf
  rw [Function.update_self, Function.update_self]

/-- The contents the distance array may hold at the end. -/
abbrev DistAt (c : Dev nD) (d : Buf (Elt F) ((c : Thread nD τ).loc main_v3)) : Prop := (rdat1 m c).ArrAt 2 cfg1.N d

/-- The encoder's array holds the encoder's value at the end. -/
theorem enc_final (c : Dev nD) (G : Buf (Elt F) ((cfg0.win 5).arr.view.loc (c : Thread nD τ))) (h : (rdat0 m c).ArrAt 5 cfg0.N G) :
    G = encOut m c := by
  obtain ⟨X, ⟨Y, -, hX⟩, hG⟩ := h.emb_eq_of_wholeAt (t₀ := t0_0) (by decide +kernel)
  have hX' : X = encOut m c := hX
  funext j
  exact (hG j).trans (by rw [hX']; rfl)

abbrev Rr (c : Dev nD) : sProp 𝕄 := iprop(∃ W, owes (c : Thread nD τ) (0 : CellTallies nD τ sig Unit) W)

abbrev Reg (p : Fin 2) := RDat.RegionSeg (pcfgs (F := F)) adm (rdats m) () defs₀ 𝒱₀ L₀ lv₀ p

theorem upd_self (V : Valuation τ sig (Elt F)) (r : Ref sig .tc) (d) : Function.update V (Proc.devRef .tc r) d (Proc.devRef .tc r) = d :=
  Function.update_self ..
theorem upd_ne (V : Valuation τ sig (Elt F)) {r s : Ref sig .tc} (h : s ≠ r) (d) :
    Function.update V (Proc.devRef .tc r) d (Proc.devRef .tc s) = V (Proc.devRef .tc s) :=
  Function.update_of_ne (StableHlo.devRef_ne_of_ne h) d V

theorem in_arr0 : ∀ w : Fin cfg0.W, w ≠ 5 → (cfg0.win w).isOut = false ∧ Pipeline.arrRef spec0 w ≠ main_v2 := by decide
theorem in_arr1 : ∀ w : Fin cfg1.W, w ≠ 2 → (cfg1.win w).isOut = false ∧ Pipeline.arrRef spec1 w ≠ main_v3 := by decide

theorem hΦ0 (c : Dev nD) (t) : (rdats m 0 c).Φ t = (Pipeline.scopedRest (Pipeline.pin (pcfgs (F := F)) adm 0).spec c : sProp 𝕄) :=
  (show (rdats m 0 c).Φ t = (Φ0 c : sProp 𝕄) from rfl).trans
    (show (Φ0 c : sProp 𝕄) = Pipeline.scopedRest (Pipeline.pin (pcfgs (F := F)) adm 0).spec c from rfl)

theorem hΦ1 (c : Dev nD) (t) : (rdats m 1 c).Φ t = (Pipeline.scopedRest (Pipeline.pin (pcfgs (F := F)) adm 1).spec c : sProp 𝕄) :=
  (show (rdats m 1 c).Φ t = (Φ1 c : sProp 𝕄) from rfl).trans
    (show (Φ1 c : sProp 𝕄) = Pipeline.scopedRest (Pipeline.pin (pcfgs (F := F)) adm 1).spec c from rfl)

set_option backward.isDefEq.respectTransparency.types false in
/-- The encoder's region over the thread state. -/
def reg0 : Reg m 0 :=
  Rel.relSeg (pcfgs (F := F)) adm (rdats m) () defs₀ 𝒱₀ L₀ lv₀ 0 launch0.toP rfl (body0 m) (fun _ _ => rfl) (fun _ => rfl)
    (fun c w => by unfold RDat.share; split <;> rfl) (hΦ0 m) (V1 m) (fun c A => Function.update (V1 m c) main_v2 (A 5))
    (fun c w => rfl)
    (fun c A hA w => by
      by_cases hw : w = 5
      · subst hw
        exact (Function.update_self (Proc.devRef .tc main_v2 : DevRef τ sig) (A 5 : Buf (Elt F) ((c : Thread nD τ).loc main_v2)) (V1 m c)).symm
      · have h := in_arr0 w hw
        exact ((congrFun ((rdat0 m c).ArrAt_in w h.1 cfg0.N) (A w)).mp (hA w)).trans
          (upd_ne (V1 m c) h.2 (A 5)).symm)
    (fun c A b hb => Function.update_of_ne (StableHlo.devRef_ne_of_ne fun h =>
      hb (Finset.mem_image.mpr ⟨5, Finset.mem_univ _, h.symm⟩)) _ _)

set_option backward.isDefEq.respectTransparency.types false in
/-- The distance region over the thread state. -/
def reg1 : Reg m 1 :=
  Rel.relSeg (pcfgs (F := F)) adm (rdats m) () defs₀ 𝒱₀ L₀ lv₀ 1 launch1.toP rfl (body1 m) (fun _ _ => rfl) (fun _ => rfl)
    (fun c w => by unfold RDat.share; split <;> rfl) (hΦ1 m) (W2 m) (fun c A => Function.update (W2 m c) main_v3 (A 2))
    (fun c w => rfl)
    (fun c A hA w => by
      by_cases hw : w = 2
      · subst hw
        exact (Function.update_self (Proc.devRef .tc main_v3 : DevRef τ sig) (A 2 : Buf (Elt F) ((c : Thread nD τ).loc main_v3)) (W2 m c)).symm
      · have h := in_arr1 w hw
        exact ((congrFun ((rdat1 m c).ArrAt_in w h.1 cfg1.N) (A w)).mp (hA w)).trans
          (upd_ne (W2 m c) h.2 (A 2)).symm)
    (fun c A b hb => Function.update_of_ne (StableHlo.devRef_ne_of_ne fun h =>
      hb (Finset.mem_image.mpr ⟨2, Finset.mem_univ _, h.symm⟩)) _ _)

/-- The valuations before each stretch of the tail. -/
abbrev sel3 (c : Dev nD) (V : Valuation τ sig (Elt F)) : Prop := ∃ d, DistAt m c d ∧ V = V3 m (outsOf m c d) c
abbrev sel4 (c : Dev nD) (V : Valuation τ sig (Elt F)) : Prop := ∃ V₀, sel3 m c V₀ ∧ V = StableHlo.after hostOps2 V₀
abbrev sel5 (c : Dev nD) (V : Valuation τ sig (Elt F)) : Prop := ∃ V₀, sel4 m c V₀ ∧ V = StableHlo.after hostOps2_1 V₀
abbrev sel6 (c : Dev nD) (V : Valuation τ sig (Elt F)) : Prop := ∃ V₀, sel5 m c V₀ ∧ V = StableHlo.after hostOps2_2 V₀

theorem sel6_V6 (c : Dev nD) (V) (h : sel6 m c V) : ∃ d, DistAt m c d ∧ V = V6 m (outsOf m c d) c := by
  obtain ⟨_, ⟨_, ⟨_, ⟨d, hd, rfl⟩, rfl⟩, rfl⟩, rfl⟩ := h
  exact ⟨d, hd, rfl⟩

abbrev HSeg := HostSeg (Ix := Unit) (Name := ℕ) (U := UU) (Lvl := ℕ) (pcfgs (F := F)) defs₀ 𝒱₀ L₀ lv₀

def hs0 : HSeg (F := F) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rr
def hs3 : HSeg (F := F) :=
  Rel.hostEx _ _ _ _ _ hostOps2
    (fun op h => Pipeline.sub_ucRefs op ((List.forall_iff_forall_mem.mp hostOps2_sub) op h))
    (fun op h => (List.forall_iff_forall_mem.mp hostOps2_fresh) op h) (sel3 m) Rr
def hs4 : HSeg (F := F) :=
  Rel.hostEx _ _ _ _ _ hostOps2_1
    (fun op h => Pipeline.sub_ucRefs op ((List.forall_iff_forall_mem.mp hostOps2_1_sub) op h))
    (fun op h => (List.forall_iff_forall_mem.mp hostOps2_1_fresh) op h) (sel4 m) Rr
def hs5 : HSeg (F := F) :=
  Rel.hostEx _ _ _ _ _ hostOps2_2
    (fun op h => Pipeline.sub_ucRefs op ((List.forall_iff_forall_mem.mp hostOps2_2_sub) op h))
    (fun op h => (List.forall_iff_forall_mem.mp hostOps2_2_fresh) op h) (sel5 m) Rr

/-- @main's items. -/
abbrev segsR : List (RDat.Seg (pcfgs (F := F)) adm (rdats m) () defs₀ 𝒱₀ L₀ lv₀) :=
  [.host (hs0 m), .region (reg0 m), .region (reg1 m), .host (hs3 m), .host (hs4 m), .host (hs5 m)]

/-- Between the regions: the encoder's array holds the encoder's value. -/
theorem chain01 (c : Dev nD) : (reg0 m).post c ⊢ (reg1 m).pre c := by
  show iprop(∃ A, ⌜Rel.Fin' (pcfgs (F := F)) adm (rdats m) 0 c A⌝ ∗ StableHlo.held (c.tc : Thread nD τ) (Pipeline.ucRefs τ sig) (Function.update (V1 m c) main_v2 (A 5)) ∗ Rr c)
    ⊢ (iprop(StableHlo.held (c.tc : Thread nD τ) (Pipeline.ucRefs τ sig) (W2 m c) ∗ Rr c) : sProp 𝕄)
  iintro ⟨%A, %hA, H, HR⟩
  have e : A 5 = encOut m c := enc_final m c (A 5) (hA 5)
  isplitl [H]
  · rw [e]; iexact H
  · iexact HR

/-- After the regions: the distance array holds some contents it may hold. -/
theorem chain13 (c : Dev nD) : (reg1 m).post c ⊢ (hs3 m).pre c := by
  show iprop(∃ A, ⌜Rel.Fin' (pcfgs (F := F)) adm (rdats m) 1 c A⌝ ∗ StableHlo.held (c.tc : Thread nD τ) (Pipeline.ucRefs τ sig) (Function.update (W2 m c) main_v3 (A 2)) ∗ Rr c)
    ⊢ (iprop(∃ V, ⌜sel3 m c V⌝ ∗ StableHlo.held (c.tc : Thread nD τ) (Pipeline.ucRefs τ sig) V ∗ Rr c) : sProp 𝕄)
  iintro ⟨%A, %hA, H, HR⟩
  iexists (Function.update (W2 m c) main_v3 (A 2))
  isplitr
  · ipureintro; exact ⟨A 2, hA 2, (V3_outsOf m c (A 2)).symm⟩
  isplitl [H]
  · iexact H
  · iexact HR

/-- What the last thread state says of core `c`'s buffers. -/
abbrev QY (c : Dev nD) (s : MemSt nD τ sig (Elt F)) : Prop :=
  ∃ d, DistAt m c d ∧ ∀ b ∈ Pipeline.ucRefs τ sig, s.mem ((c : Thread nD τ).1, b) = V6 m (outsOf m c d) c b

set_option backward.isDefEq.respectTransparency.types false in
/-- THE RUN. -/
theorem run_all (ρ : Dev nD → PrngReg) :
    θ_run defs (onTc (τ := τ) (main (F := F))) ⟨m, fun _ => 0, ρ⟩ (fun r => (∀ c : Dev nD, QY m c r.2) ∧ r.2.sem = fun _ => 0) := by
  refine RDat.θ_run_regions_kit_dev_sems (pcfgs (F := F)) adm (rdats m) () cellOf_inj emb₁ defs₀ 𝒱₀ L₀ lv₀ m ρ main
    (fun _ => segsR m)
    (fun c Q => by
      rewrite [main_chain c, RDat.Seg.run_eq_chain,
        show (segsR m).map RDat.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by
      rw [show RDat.Seg.pipes (segsR m) = [(0 : Fin 2), 1] from rfl]; decide) 0 (fun _ _ => rfl) (fun _ => BI.emp)
    (initOf (Pipeline.cells (Pipeline.pin (pcfgs (F := F)) adm) cellOf_inj) (Pipeline.launchToks (Pipeline.pin (pcfgs (F := F)) adm) cellOf_inj)) ?_
    (T₀ := fun c => iprop(StableHlo.held (c : Thread nD τ) (Pipeline.ucRefs τ sig) (V0 m c) ∗ Rr c))
    (Tₙ := fun c => iprop(∃ V, ⌜sel6 m c V⌝ ∗ StableHlo.held (c : Thread nD τ) (Pipeline.ucRefs τ sig) V))
    (hch := fun c => ⟨.rfl, .rfl, chain01 m c, chain13 m c, .rfl, .rfl, ?_⟩)
    (hinit := ?_) (QY := QY m)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) adm) cellOf_inj)
        (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show iprop(∃ V, ⌜sel6 m c V⌝ ∗ StableHlo.held (c.tc : Thread nD τ) (Pipeline.ucRefs τ sig) V ∗ Rr c)
      ⊢ (iprop((∃ V, ⌜sel6 m c V⌝ ∗ StableHlo.held (c.tc : Thread nD τ) (Pipeline.ucRefs τ sig) V) ∗ Rr c) : sProp 𝕄)
    iintro ⟨%V, %hV, H, HR⟩
    isplitl [H]
    · iexists V
      isplitr
      · ipureintro; exact hV
      · iexact H
    · iexact HR
  · have hone : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ BI.emp) : sProp 𝕄)
        ⊢ iprop(StableHlo.held (c : Thread nD τ) (Pipeline.ucRefs τ sig) (V0 m c) ∗ Rr c) := fun c => by
      rw [← Pipeline.unscopedBufs_held (Ix := Unit) (Name := ℕ) (U := UU) (Lvl := ℕ) c (V0 m c)]
      iintro ⟨Hb, -, HO, -⟩
      isplitl [Hb]
      · iexact Hb
      · iexists ∅; iexact HO
    iintro ⟨H, -⟩
    imodintro
    have hall : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ BI.emp))
        ⊢ (bigSep Finset.univ fun c : Dev nD => iprop(StableHlo.held (c : Thread nD τ) (Pipeline.ucRefs τ sig) (V0 m c) ∗ Rr c) : sProp 𝕄) :=
      bigSep_mono fun c _ => hone c
    iapply hall
    iexact H
  · iintro ⟨⟨%V, %hV, Hh⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      obtain ⟨d, hd, rfl⟩ := sel6_V6 m c V hV
      exact ⟨d, hd, h⟩
    · iexact HSI

end Cert.Proof.KI

end
-- ==== Proof.Frames.lean ====
/-
  The three frames. The kernel's two programs are one text at two float instances: the run of `Run.lean`, stated at any
  instance, serves both once their tables of bodies are seen to be equal. The reference is host operations only.
-/
module

public import proofs.«01_k».proof.Defs
public import proofs.«01_k».proof.Proof.Gen.ReferenceIdeal
public import proofs.«01_k».proof.Proof.Gen.Kernel.Regions
public import proofs.«01_k».proof.Proof.Run
public import Idealize.ShloMosaic.Lib.Claim

@[expose] public section

namespace Cert.Proof.KI

open Cert.KernelIdeal Cert.KernelIdeal.Gen
open Idealize.ShloMosaic

variable {F : FTy → Type} [FloatOps F]

/-- What a buffer that the run leaves as launched holds at the end. -/
theorem kept {m : (ℓ : Loc nD τ sig) → Buf (Elt F) ℓ} {c : Dev nD} {s : MemSt nD τ sig (Elt F)} (h : QY m c s) (r : Ref sig .tc)
    (hr : (Proc.devRef .tc r : DevRef τ sig) ∈ Pipeline.ucRefs τ sig)
    (hV : ∀ outs : Outs (F := F), V6 m outs c (Proc.devRef .tc r) = m ((c.tc : Thread nD τ).loc r)) : s.mem ((c.tc : Thread nD τ).loc r) = m ((c.tc : Thread nD τ).loc r) := by
  obtain ⟨d, -, h⟩ := h
  exact (h _ hr).trans (hV _)

theorem uc (r : Ref sig .tc) (h : r.isScoped = false := by decide) : (Proc.devRef .tc r : DevRef τ sig) ∈ Pipeline.ucRefs τ sig :=
  Finset.mem_filter.mpr ⟨StableHlo.devRef_mem_tcRefs r, by simpa using h⟩

/-- The frame, at any float instance. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine θ_run_mono (run_all m ρ) fun r h => ⟨fun c => ?_, h.2⟩
  exact ⟨kept (h.1 c) _ (uc _) fun o => V6_main_arg0 m o c, kept (h.1 c) _ (uc _) fun o => V6_main_arg1 m o c,
    kept (h.1 c) _ (uc _) fun o => V6_main_arg2 m o c, kept (h.1 c) _ (uc _) fun o => V6_main_arg3 m o c,
    kept (h.1 c) _ (uc _) fun o => V6_main_arg4 m o c, kept (h.1 c) _ (uc _) fun o => V6_main_arg5 m o c,
    kept (h.1 c) _ (uc _) fun o => V6_main_arg6 m o c⟩

theorem frame : Cert.quiescent_KernelIdeal := fun m g _ => frame_any m g

end Cert.Proof.KI

namespace Cert.Proof.K

open Idealize.ShloMosaic

variable {F : FTy → Type} [FloatOps F]

theorem defs₀_eq : Cert.Kernel.defs₀ (F := F) = Cert.KernelIdeal.defs₀ (F := F) := by
  funext i
  rcases i
  case tc =>
    funext l args
    change Fin 2 at l
    rcases l with ⟨l, h⟩
    rcases l with _ | _ | l
    · rfl
    · rfl
    · exact absurd h (by omega)
  all_goals rfl

theorem defs_eq : Cert.Kernel.defs (F := F) = Cert.KernelIdeal.defs (F := F) := by
  unfold Cert.Kernel.defs Cert.KernelIdeal.defs
  rw [defs₀_eq]
  rfl

theorem frame : Cert.quiescent_Kernel := fun m g _ => by
  rw [defs_eq]
  exact KI.frame_any (F := Bits) m g

end Cert.Proof.K

namespace Cert.Proof.RI

open Cert.ReferenceIdeal Cert.ReferenceIdeal.Gen
open Idealize.ShloMosaic

theorem frame : Cert.quiescent_ReferenceIdeal := by
  intro m g _
  refine θ_run_mono (StableHlo.run_hlo _ _ (by hlo_seq) (by decide) (by decide) (by simp)
    (by intro _ h; (repeat (cases h with | head => rfl | tail _ h => ?_)); exact nomatch h) _ _) ?_
  intro r hr
  refine ⟨fun c => ?_, sem_eq_zero_of_no_sems (by decide) _⟩
  and_intros <;> rw [hr] <;> after_results

end Cert.Proof.RI

end
-- ==== Proof.Cover.lean ====
/-
  The distance region's written-back blocks cover its array.
-/
module

public import proofs.«01_k».proof.Proof.Run
public import Idealize.ShloMosaic.Lib.Pipeline.ValueKit

@[expose] public section

namespace Cert.Proof.KI

open Cert.KernelIdeal Cert.KernelIdeal.Gen
open Idealize.ShloMosaic

theorem covers1 : (cfg1.win 2).Covers := by decide +kernel

end Cert.Proof.KI
-- ==== Proof.Terms.lean ====
/-
  The reference's values as terms over the arguments, and the two kernel bodies read at an index over the extended reals.
-/
module

public import proofs.«01_k».proof.Proof.Gen.ReferenceIdeal
public import proofs.«01_k».proof.Proof.Gen.KernelIdeal.Skeleton
public import Idealize.ShloMosaic.Lib.Pointwise

@[expose] public section

noncomputable section

namespace Cert.Proof

open Idealize.ShloMosaic

section Ref
open Cert.ReferenceIdeal Cert.ReferenceIdeal.Gen

variable {F : FTy → Type} [FloatOps F]

/-- One layer of the encoder before its activation. -/
def layer1 (x : FVec F S1024x4 .f32) (W : FVec F S4x128 .f32) (b : FVec F S128 .f32) : FVec F S1024x128 .f32 :=
  addf (Host.dotGeneral dot_S1024x4_S4x128_S1024x128_1_0_0_1_n_n none x W)
    (broadcastInDim S1024x128 ![0, 1] bcast_S1x128_S1024x128_0_1 (broadcastInDim S1x128 ![1] bcast_S128_S1x128_1 b))

/-- The encoder: two layers, the first rectified. -/
def refQ (x : FVec F S1024x4 .f32) (W1 : FVec F S4x128 .f32) (b1 : FVec F S128 .f32) (W2 : FVec F S128x128 .f32) (b2 : FVec F S128 .f32) :
    FVec F S1024x128 .f32 :=
  addf (Host.dotGeneral dot_S1024x128_S128x128_S1024x128_1_0_0_1_n_n none
      (maximumf (layer1 x W1 b1) (broadcastInDim S1024x128 ![] bcast_S_S1024x128 (constant S_ .f32 0x00000000#32))) W2)
    (broadcastInDim S1024x128 ![0, 1] bcast_S1x128_S1024x128_0_1 (broadcastInDim S1x128 ![1] bcast_S128_S1x128_1 b2))

/-- The squared distances of every query to every key of every action. -/
def refD (q : FVec F S1024x128 .f32) (K : FVec F S2x100000x128 .f32) : FVec F S2x1024x100000 .f32 :=
  addf (subf
      (broadcastInDim S2x1024x100000 ![0, 1, 2] bcast_S1x1024x1_S2x1024x100000_0_1_2 (broadcastInDim S1x1024x1 ![1] bcast_S1024_S1x1024x1_1
        (Host.reduceAdd (mulf q q) (constant S_ .f32 0x00000000#32) reducesTo_S1024x128_S1024_d1 h_S_)))
      (mulf (broadcastInDim S2x1024x100000 ![] bcast_S_S2x1024x100000 (constant S_ .f32 0x40000000#32))
        (transpose S2x1024x100000 [0, 2, 1] (Host.dotGeneral dot_S2x100000x128_S1024x128_S2x100000x1024_2_1_01_0_n_n none K q)
          transposes_S2x100000x1024_S2x1024x100000_0_2_1)))
    (broadcastInDim S2x1024x100000 ![0, 1, 2] bcast_S2x1x100000_S2x1024x100000_0_1_2 (broadcastInDim S2x1x100000 ![0, 2] bcast_S2x100000_S2x1x100000_0_2
      (Host.reduceAdd (mulf K K) (constant S_ .f32 0x00000000#32) reducesTo_S2x100000x128_S2x100000_d2 h_S_)))

/-- The nearest keys' negated distances and their places. -/
def near (D : FVec F S2x1024x100000 .f32) :=
  Host.topK S2x1024x50 2 (FloatOps.cmpfTotal .gt) (Host.negf D) sliceFits_S2x1024x100000_S2x1024x50

/-- The inverse-distance weights before they are normalised. -/
def inv (D : FVec F S2x1024x100000 .f32) : FVec F S2x1024x50 .f32 :=
  Host.divf (broadcastInDim S2x1024x50 ![] bcast_S_S2x1024x50 (constant S_ .f32 0x3F800000#32))
    (addf (Host.negf (near D).1) (broadcastInDim S2x1024x50 ![] bcast_S_S2x1024x50 (constant S_ .f32 0x3A83126F#32)))

/-- The weights. -/
def wts (D : FVec F S2x1024x100000 .f32) : FVec F S2x1024x50 .f32 :=
  Host.divf (inv D) (broadcastInDim S2x1024x50 ![0, 1, 2] bcast_S2x1024x1_S2x1024x50_0_1_2
    (broadcastInDim S2x1024x1 ![0, 1] bcast_S2x1024_S2x1024x1_0_1
      (Host.reduceAdd (inv D) (constant S_ .f32 0x00000000#32) reducesTo_S2x1024x50_S2x1024_d2 h_S_)))

/-- The nearest keys' places as the gather reads them. -/
def places (I : IVec S2x1024x50 32) : IVec S2x1024x50x1 32 :=
  broadcastInDim S2x1024x50x1 ![0, 1, 2] bcast_S2x1024x50_S2x1024x50x1_0_1_2
    (select (cmpi .slt I (broadcastInDim S2x1024x50 ![] bcast_S_S2x1024x50 (constantI S_ 32 0#32)))
      (addi I (broadcastInDim S2x1024x50 ![] bcast_S_S2x1024x50 (constantI S_ 32 100000#32))) I)

/-- The action values. -/
def vals (D : FVec F S2x1024x100000 .f32) (V : FVec F S2x100000 .f32) : FVec F S1024x2 .f32 :=
  transpose S1024x2 [1, 0]
    (Host.reduceAdd (mulf (wts D) (Host.gather gather_S2x100000_S2x1024x50x1_S2x1024x50_n_1_0_0_1_3_11 V (places (near D).2)))
      (constant S_ .f32 0x00000000#32) reducesTo_S2x1024x50_S2x1024_d2 h_S_) transposes_S2x1024_S1024x2_1_0

/-- The chosen actions. -/
def acts (D : FVec F S2x1024x100000 .f32) (V : FVec F S2x100000 .f32) : IVec S1024 32 := fun j =>
  (Host.argReduce reducer_argmax_f32_i32 (vals D V) (iotaInDim S1024x2 32 1) (constant S_ .f32 0xFF800000#32) (constantI S_ 32 0#32)
    reducesTo_S1024x2_S1024_d1 h_S_ j).2

/-- The places and the weights, by query. -/
def idxs (D : FVec F S2x1024x100000 .f32) : IVec S1024x2x50 32 :=
  transpose S1024x2x50 [1, 0, 2] (near D).2 transposes_S2x1024x50_S1024x2x50_1_0_2
def scrs (D : FVec F S2x1024x100000 .f32) : FVec F S1024x2x50 .f32 :=
  transpose S1024x2x50 [1, 0, 2] (wts D) transposes_S2x1024x50_S1024x2x50_1_0_2

end Ref

open Cert.KernelIdeal.Gen in
/-- The encoder's body computes the reference's encoder. -/
theorem enc_eq (x : FVec Ideal Cert.KernelIdeal.S1024x4 .f32) (W1 : FVec Ideal Cert.KernelIdeal.S4x128 .f32) (b1 : FVec Ideal Cert.KernelIdeal.S128 .f32)
    (W2 : FVec Ideal Cert.KernelIdeal.S128x128 .f32) (b2 : FVec Ideal Cert.KernelIdeal.S128 .f32) :
    k0_pay1 (F := Ideal) x W1 (shapeCast Cert.KernelIdeal.S1x128 b1 Cert.KernelIdeal.Gen.shapeCasts_S128_S1x128) W2
      (shapeCast Cert.KernelIdeal.S1x128 b2 Cert.KernelIdeal.Gen.shapeCasts_S128_S1x128) = refQ x W1 b1 W2 b2 := by
  funext j
  idx_vars j
  pointwise [k0_pay1, refQ, layer1]

/-- The squared distance of two vectors, as both programs compute it. -/
def dist (q k : Fin 128 → EReal) : EReal := (∑ i, q i * q i) - Ideal.ofBits .f32 0x40000000#32 * (∑ i, q i * k i) + ∑ i, k i * k i

open Cert.KernelIdeal.Gen in
theorem pay_at (q : FVec Ideal Cert.KernelIdeal.S512x128 .f32) (K : FVec Ideal Cert.KernelIdeal.S1x2048x128 .f32) (z : Fin 1) (r : Fin 512) (j : Fin 2048) :
    k1_pay1 (F := Ideal) q K (ix3 z r j) = dist (fun i => q (ix2 r i)) (fun i => K (ix3 0 j i)) := by
  pointwise [k1_pay1, dist]

theorem refD_at (q : FVec Ideal Cert.ReferenceIdeal.S1024x128 .f32) (K : FVec Ideal Cert.ReferenceIdeal.S2x100000x128 .f32) (a : Fin 2) (b : Fin 1024) (j : Fin 100000) :
    refD q K (ix3 a b j) = dist (fun i => q (ix2 b i)) (fun i => K (ix3 a j i)) := by
  pointwise [refD, dist]
  rw [Finset.sum_congr rfl fun i _ => mul_comm (K (ix3 a j i)) (q (ix2 b i))]

end Cert.Proof

end
-- ==== Proof.Value.lean ====
/-
  What the two regions leave over the extended reals: the encoder's array holds the reference's keys, and whatever contents
  the distance array may hold are the reference's squared distances (the elements that a clipped block brings in from past
  the array's end reach only elements that the clipped write-back drops).
-/
module

public import proofs.«01_k».proof.Proof.Cover
public import proofs.«01_k».proof.Proof.Terms
public import Idealize.ShloMosaic.Lib.Pipeline.ValueKit

@[expose] public section

noncomputable section

namespace Cert.Proof.KI

open Cert.KernelIdeal Cert.KernelIdeal.Gen
open Idealize.ShloMosaic
open Idealize.ShloMosaic.TcCoe

variable (m : (ℓ : Loc nD τ sig) → Buf (Elt Ideal) ℓ) (c : Dev nD)

/-- An argument as launched. -/
abbrev arg (r : Ref sig .tc) : Buf (Elt Ideal) ((c : Thread nD τ).loc r) := m ((c : Thread nD τ).loc r)

theorem V1_v0 : V1 m c main_v0 = shapeCast S1x128 (arg m c main_arg2) shapeCasts_S128_S1x128 := by
  unfold V1; after_results; rfl
theorem V1_v1 : V1 m c main_v1 = shapeCast S1x128 (arg m c main_arg4) shapeCasts_S128_S1x128 := by
  unfold V1; after_results; rfl

/-- The one point's blocks start at the arrays' origins. -/
theorem idx0_0 : ∀ a, win0_0.index t0_0 a = 0 := by decide
theorem idx0_1 : ∀ a, win0_1.index t0_0 a = 0 := by decide
theorem idx0_2 : ∀ a, win0_2.index t0_0 a = 0 := by decide
theorem idx0_3 : ∀ a, win0_3.index t0_0 a = 0 := by decide
theorem idx0_4 : ∀ a, win0_4.index t0_0 a = 0 := by decide

/-- The reference's keys of the kernel's arguments. -/
abbrev qOf : FVec Ideal Cert.ReferenceIdeal.S1024x128 .f32 :=
  refQ (F := Ideal) (arg m c main_arg0) (arg m c main_arg1) (arg m c main_arg2) (arg m c main_arg3) (arg m c main_arg4)

theorem eblk0 : eblk m c 0 = arg m c main_arg0 := by
  funext y
  exact (congrArg (V1 m c main_arg0) (by blk_ext [idx0_0])).trans (congrFun (V1_of m c main_arg0 (by decide)) _)
theorem eblk1 : eblk m c 1 = arg m c main_arg1 := by
  funext y
  exact (congrArg (V1 m c main_arg1) (by blk_ext [idx0_1])).trans (congrFun (V1_of m c main_arg1 (by decide)) _)
theorem eblk2 : eblk m c 2 = shapeCast S1x128 (arg m c main_arg2) shapeCasts_S128_S1x128 := by
  funext y
  exact (congrArg (V1 m c main_v0) (by blk_ext [idx0_2])).trans (congrFun (V1_v0 m c) _)
theorem eblk3 : eblk m c 3 = arg m c main_arg3 := by
  funext y
  exact (congrArg (V1 m c main_arg3) (by blk_ext [idx0_3])).trans (congrFun (V1_of m c main_arg3 (by decide)) _)
theorem eblk4 : eblk m c 4 = shapeCast S1x128 (arg m c main_arg4) shapeCasts_S128_S1x128 := by
  funext y
  exact (congrArg (V1 m c main_v1) (by blk_ext [idx0_4])).trans (congrFun (V1_v1 m c) _)

/-- The encoder leaves the reference's keys. -/
theorem encOut_eq : encOut m c = qOf m c := by
  unfold encOut
  rw [eblk0, eblk1, eblk2, eblk3, eblk4]
  exact enc_eq _ _ _ _ _

theorem W2_v2 : W2 m c main_v2 = qOf m c := (upd_self _ _ _).trans (encOut_eq m c)
theorem W2_arg5 : W2 m c main_arg5 = arg m c main_arg5 := (upd_ne _ (by decide) _).trans (V1_of m c main_arg5 (by decide))

/-- The blocks' places, by the output's. -/
theorem idx1_00 (t : Fin cfg1.N) : win1_0.index t 0 = win1_2.index t 1 := rfl
theorem idx1_01 (t : Fin cfg1.N) : win1_0.index t 1 = 0 := rfl
theorem idx1_10 (t : Fin cfg1.N) : win1_1.index t 0 = win1_2.index t 0 := rfl
theorem idx1_11 (t : Fin cfg1.N) : win1_1.index t 1 = win1_2.index t 2 := rfl
theorem idx1_12 (t : Fin cfg1.N) : win1_1.index t 2 = 0 := rfl

theorem eta3 {a b c : Nat} (i : (k : Fin 3) → Fin (![a, b, c] k)) : i = ix3 (i 0) (i 1) (i 2) := by
  funext k; fin_cases k <;> rfl

/-- The key row's element that an output column's distance reads. -/
def keyAt (t : Fin cfg1.N) (y : ((cfg1.win 2).xblock (cfg1.grid.coords t)).Idx) (i : Fin 128) : ((cfg1.win 1).xblock (cfg1.grid.coords t)).Idx :=
  fun a => match a with
  | ⟨0, _⟩ => y 0
  | ⟨1, _⟩ => y 2
  | ⟨2, _⟩ => i

theorem keyAt_0 (t y i) : (keyAt t y i 0 : Nat) = y 0 := rfl
theorem keyAt_1 (t y i) : (keyAt t y i 1 : Nat) = y 2 := rfl
theorem keyAt_2 (t y i) : (keyAt t y i 2 : Nat) = i := rfl

theorem key_ix (t : Fin cfg1.N) (y : ((cfg1.win 2).xblock (cfg1.grid.coords t)).Idx) (i : Fin 128) :
    ix3 (0 : Fin 1) ((cfg1.win 2).xinj (cfg1.grid.coords t) y 2) i = (cfg1.win 1).xinj (cfg1.grid.coords t) (keyAt t y i) := by
  funext a
  match a with
  | ⟨0, _⟩ => exact Subsingleton.elim (α := Fin 1) _ _
  | ⟨1, _⟩ => rfl
  | ⟨2, _⟩ => rfl

/-- The body's value at an element that the write-back moves. -/
theorem distOut_at (t : Fin cfg1.N) (d : Vec Ideal S1x2048x128 .f32) (y : ((cfg1.win 2).xblock (cfg1.grid.coords t)).Idx) :
    distOut m c t d ((cfg1.win 2).xinj (cfg1.grid.coords t) y) = refD (qOf m c) (arg m c main_arg5) (((cfg1.win 2).blk t).view.emb y) := by
  refine (congrArg (distOut m c t d) (eta3 ((cfg1.win 2).xinj (cfg1.grid.coords t) y))).trans ?_
  refine Eq.trans ?_ (congrArg (refD (qOf m c) (arg m c main_arg5)) (eta3 (((cfg1.win 2).blk t).view.emb y))).symm
  refine (pay_at _ _ _ _ _).trans (Eq.trans ?_ (refD_at _ _ _ _ _).symm)
  refine congrArg₂ dist (funext fun i => ?_) (funext fun i => ?_)
  · exact (congrArg (W2 m c main_v2) (by blk_ext [idx1_00, idx1_01])).trans (congrFun (W2_v2 m c) _)
  · refine (congrArg ((cfg1.win 1).fill (cfg1.grid.coords t) d (dblk m c 1 t)) (key_ix t y i)).trans
      (((cfg1.win 1).fill_xinj _ _ _ _).trans ?_)
    exact (congrArg (W2 m c main_arg5) (by blk_ext [idx1_10, idx1_11, idx1_12, keyAt_0, keyAt_1, keyAt_2])).trans (congrFun (W2_arg5 m c) _)

/-- The distance array holds the reference's squared distances. -/
theorem dist_final (d : Buf (Elt Ideal) ((c : Thread nD τ).loc main_v3)) (h : DistAt m c d) : d = refD (qOf m c) (arg m c main_arg5) := by
  obtain ⟨X, hX, hA⟩ := h.exists_exact
  have e := hA (Function.update (fun _ _ _ => Classical.arbitrary _) 2 X) fun u _ _ => by rw [Function.update_self]
  rw [e]
  refine Pipeline.Dat.arrAt_eq_of_covers _ 2 _ covers1 fun t hf y => ?_
  obtain ⟨Y, -, dd, hd⟩ := hX t t.isLt hf
  rw [Pipeline.RDat.withAfter_after, Function.update_self, hd]
  exact distOut_at m c t dd y

end Cert.Proof.KI

end
-- ==== Proof.Tail.lean ====
/-
  The host tail of each program: the four results after the distances, as the reference's terms over the distances.
-/
module

public import proofs.«01_k».proof.Proof.Value

@[expose] public section

noncomputable section

namespace Cert.Proof.KI

open Cert.KernelIdeal Cert.KernelIdeal.Gen
open Idealize.ShloMosaic
open Idealize.ShloMosaic.TcCoe

variable (m : (ℓ : Loc nD τ sig) → Buf (Elt Ideal) ℓ) (c : Dev nD) (d : Buf (Elt Ideal) ((c : Thread nD τ).loc main_v3))

theorem V3_v3 : V3 m (outsOf m c d) c main_v3 = d := by
  rw [V3_outsOf]; exact upd_self _ _ _
theorem V3_arg6 : V3 m (outsOf m c d) c main_arg6 = arg m c main_arg6 := by
  rw [V3_outsOf]
  exact (upd_ne _ (by decide) _).trans ((upd_ne _ (by decide) _).trans (V1_of m c main_arg6 (by decide)))

theorem V6_v2 : V6 m (outsOf m c d) c main_v2 = qOf m c := by
  rw [V6_of _ _ _ _ (by decide), V5_of _ _ _ _ (by decide), V4_of _ _ _ _ (by decide), V3_of _ _ _ _ (by decide), V2_outsOf]
  exact W2_v2 m c

theorem V6_v23 : V6 m (outsOf m c d) c main_v23 = vals (F := Ideal) d (arg m c main_arg6) := by
  unfold V6 V5 V4
  after_results
  rw [V3_v3, V3_arg6]
  rfl
theorem V6_v24 : V6 m (outsOf m c d) c main_v24 = acts (F := Ideal) d (arg m c main_arg6) := by
  unfold V6 V5 V4
  after_results
  rw [V3_v3, V3_arg6]
  rfl
theorem V6_v25 : V6 m (outsOf m c d) c main_v25 = idxs (F := Ideal) d := by
  unfold V6 V5 V4
  after_results
  rw [V3_v3]
  rfl
theorem V6_v26 : V6 m (outsOf m c d) c main_v26 = scrs (F := Ideal) d := by
  unfold V6 V5 V4
  after_results
  rw [V3_v3]
  rfl

end Cert.Proof.KI

end
-- ==== Proof.Algebraic.lean ====
/-
  The value claim: over the extended reals both programs leave the same keys, values, actions, places and weights.
-/
module

public import proofs.«01_k».proof.Proof.Frames
public import proofs.«01_k».proof.Proof.Tail

@[expose] public section

namespace Cert.Proof.KI

open Cert.KernelIdeal Cert.KernelIdeal.Gen
open Idealize.ShloMosaic
open Idealize.ShloMosaic.TcCoe

variable (m : (ℓ : Loc nD τ sig) → Buf (Elt Ideal) ℓ)

/-- The reference's distances of the kernel's arguments. -/
noncomputable abbrev dOf (c : Dev nD) : FVec Ideal Cert.ReferenceIdeal.S2x1024x100000 .f32 := refD (qOf m c) (arg m c main_arg5)

/-- The kernel's results. -/
theorem results (g : Dev nD → PrngReg) :
    θ_run defs (onTc (τ := τ) (main (F := Ideal))) ⟨m, fun _ => 0, g⟩ (fun r => ∀ c : Dev nD,
      r.2.mem ((c.tc : Thread nD τ).loc main_v2) = qOf m c
      ∧ r.2.mem ((c.tc : Thread nD τ).loc main_v23) = vals (F := Ideal) (dOf m c) (arg m c main_arg6)
      ∧ r.2.mem ((c.tc : Thread nD τ).loc main_v24) = acts (F := Ideal) (dOf m c) (arg m c main_arg6)
      ∧ r.2.mem ((c.tc : Thread nD τ).loc main_v25) = idxs (F := Ideal) (dOf m c)
      ∧ r.2.mem ((c.tc : Thread nD τ).loc main_v26) = scrs (F := Ideal) (dOf m c)) := by
  refine θ_run_mono (run_all m g) fun r h c => ?_
  obtain ⟨d, hd, h⟩ := h.1 c
  obtain rfl := dist_final m c d hd
  exact ⟨(h _ (uc main_v2)).trans (V6_v2 m c _), (h _ (uc main_v23)).trans (V6_v23 m c _), (h _ (uc main_v24)).trans (V6_v24 m c _),
    (h _ (uc main_v25)).trans (V6_v25 m c _), (h _ (uc main_v26)).trans (V6_v26 m c _)⟩

end Cert.Proof.KI

namespace Cert.Proof.RI

open Cert.ReferenceIdeal Cert.ReferenceIdeal.Gen
open Idealize.ShloMosaic

variable (m : (ℓ : Loc nD τ sig) → Buf (Elt Ideal) ℓ)

abbrev arg (c : Dev nD) (r : Ref sig .tc) : Buf (Elt Ideal) ((c.tc : Thread nD τ).loc r) := m ((c.tc : Thread nD τ).loc r)
noncomputable abbrev qOf (c : Dev nD) : FVec Ideal S1024x128 .f32 :=
  refQ (F := Ideal) (arg m c main_arg0) (arg m c main_arg1) (arg m c main_arg2) (arg m c main_arg3) (arg m c main_arg4)
noncomputable abbrev dOf (c : Dev nD) : FVec Ideal S2x1024x100000 .f32 := refD (qOf m c) (arg m c main_arg5)

/-- The reference's results. -/
theorem results (g : Dev nD → PrngReg) :
    θ_run defs (onTc (τ := τ) (main (F := Ideal))) ⟨m, fun _ => 0, g⟩ (fun r => ∀ c : Dev nD,
      r.2.mem ((c.tc : Thread nD τ).loc main_v8) = qOf m c
      ∧ r.2.mem ((c.tc : Thread nD τ).loc main_v42) = vals (F := Ideal) (dOf m c) (arg m c main_arg6)
      ∧ r.2.mem ((c.tc : Thread nD τ).loc main_v43) = acts (F := Ideal) (dOf m c) (arg m c main_arg6)
      ∧ r.2.mem ((c.tc : Thread nD τ).loc main_v44) = idxs (F := Ideal) (dOf m c)
      ∧ r.2.mem ((c.tc : Thread nD τ).loc main_v45) = scrs (F := Ideal) (dOf m c)) := by
  refine θ_run_mono (StableHlo.run_hlo _ _ (by hlo_seq) (by decide) (by decide) (by simp)
    (by intro _ h; (repeat (cases h with | head => rfl | tail _ h => ?_)); exact nomatch h) _ _) ?_
  intro r hr c
  and_intros <;> rw [hr] <;> after_results <;> rfl

end Cert.Proof.RI

namespace Cert.Proof

open Idealize.ShloMosaic

theorem algebraic : Cert.algebraic_KernelIdeal_ReferenceIdeal := by
  intro m g m' g' _ hargs
  have hq : ∀ c, RI.qOf m' c = KI.qOf m c := fun c => by
    obtain ⟨h0, h1, h2, h3, h4, -, -⟩ := hargs c
    unfold RI.qOf RI.arg
    rw [h0, h1, h2, h3, h4]
  have hd : ∀ c, RI.dOf m' c = KI.dOf m c := fun c => by
    unfold RI.dOf
    rw [hq c]
    exact congrArg (refD (KI.qOf m c)) (hargs c).2.2.2.2.2.1
  have hv : ∀ c, RI.arg m' c Cert.ReferenceIdeal.main_arg6 = KI.arg m c Cert.KernelIdeal.main_arg6 := fun c => (hargs c).2.2.2.2.2.2
  refine ⟨fun c => KI.qOf m c, fun c => vals (F := Ideal) (KI.dOf m c) (KI.arg m c Cert.KernelIdeal.main_arg6),
    fun c => acts (F := Ideal) (KI.dOf m c) (KI.arg m c Cert.KernelIdeal.main_arg6), fun c => idxs (F := Ideal) (KI.dOf m c),
    fun c => scrs (F := Ideal) (KI.dOf m c), ?_, ?_⟩
  · refine θ_run_mono (θ_run_and (KI.results m g) (KI.frame m g trivial)) fun r h c => ?_
    obtain ⟨a0, a1, a2, a3, a4⟩ := h.1 c
    exact ⟨a0, a1, a2, a3, a4, h.2.1 c⟩
  · refine θ_run_mono (θ_run_and (RI.results m' g') (RI.frame m' g' trivial)) fun r h c => ?_
    obtain ⟨a0, a1, a2, a3, a4⟩ := h.1 c
    refine ⟨a0.trans (hq c), a1.trans ?_, a2.trans ?_, a3.trans ?_, a4.trans ?_, h.2.1 c⟩
    · exact congrArg₂ (vals (F := Ideal)) (hd c) (hv c)
    · exact congrArg₂ (acts (F := Ideal)) (hd c) (hv c)
    · exact congrArg (idxs (F := Ideal)) (hd c)
    · exact congrArg (scrs (F := Ideal)) (hd c)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  K.frame, KI.frame, RI.frame, trivial, algebraic⟩

end Cert.Proof

end
